-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_in_range [hPre_scales_in_range : Cert.Pre_scales_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scales_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_in_range [hPre_scales_in_range : Cert.Pre_scales_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scales_in_range [hKernelIdeal : Cert.KernelIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scales_in_range [hReferenceIdeal : Cert.ReferenceIdeal.Facts] [hPre_scales_in_range : Cert.Pre_scales_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_scales_in_range [hKernelIdeal : Cert.KernelIdeal.Facts] [hReferenceIdeal : Cert.ReferenceIdeal.Facts] [hPre_scales_in_range : Cert.Pre_scales_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_scales_in_range : Cert.Pre_scales_in_range.Facts),
    quiescent_Kernel (hKernel := hKernel)
    ∧ quiescent_KernelIdeal (hKernelIdeal := hKernelIdeal)
    ∧ quiescent_KernelIdeal_pre_scales_in_range (hKernelIdeal := hKernelIdeal) (hPre_scales_in_range := hPre_scales_in_range)
    ∧ quiescent_ReferenceIdeal (hReferenceIdeal := hReferenceIdeal)
    ∧ quiescent_ReferenceIdeal_pre_scales_in_range (hReferenceIdeal := hReferenceIdeal) (hPre_scales_in_range := hPre_scales_in_range)
    ∧ preserves_Kernel_KernelIdeal
    ∧ algebraic_KernelIdeal_ReferenceIdeal_pre_scales_in_range (hKernelIdeal := hKernelIdeal) (hReferenceIdeal := hReferenceIdeal) (hPre_scales_in_range := hPre_scales_in_range)
-- ==== Pre_scales_in_range.lean ====
abbrev S3x2048x4096 : Shape := ⟨3, ![3, 2048, 4096]⟩
abbrev S4096x1792 : Shape := ⟨2, ![4096, 1792]⟩
abbrev S32x14 : Shape := ⟨2, ![32, 14]⟩
abbrev S3x2048x32x128 : Shape := ⟨4, ![3, 2048, 32, 128]⟩
abbrev S_ : Shape := ⟨0, ![]⟩
abbrev S3x2048x32 : Shape := ⟨3, ![3, 2048, 32]⟩

class Facts : Prop where
  bitsLt_bf16_f32 : FTy.bits .bf16 < FTy.bits .f32
  shapeCasts_S3x2048x4096_S3x2048x32x128 : S3x2048x4096.ShapeCasts S3x2048x32x128
  reducesTo_S3x2048x32x128_S3x2048x32_d3 : S3x2048x32x128.ReducesTo [3] S3x2048x32
  h_S_ : 0 < S_.numel
  bcast_S_S3x2048x32 : S_.BroadcastsInDim S3x2048x32 (![] : Fin 0 → Fin S3x2048x32.rank)

variable [Facts]

def fn {F : FTy → Type} [FloatOps F] (main_arg0 : FVec F S3x2048x4096 .bf16) (main_arg1 : FVec F S4096x1792 .fp8e4m3) (main_arg2 : FVec F S32x14 .f32) : IVec S3x2048x32 1 :=
  let main_v0 : FVec F S3x2048x4096 .f32 := (extf .f32 · bitsLt_bf16_f32) main_arg0
  let main_v1 : FVec F S3x2048x32x128 .f32 := shapeCast S3x2048x32x128 main_v0 shapeCasts_S3x2048x4096_S3x2048x32x128
  let main_v2 : FVec F S3x2048x32x128 .f32 := Host.absf main_v1
  let main_cst : FVec F S_ .f32 := constant S_ .f32 0xFF800000#32
  let main_v3 : FVec F S3x2048x32 .f32 := (fun x v => Host.reduce FloatOps.maximumf x v reducesTo_S3x2048x32x128_S3x2048x32_d3 h_S_) main_v2 main_cst
  let main_cst_0 : FVec F S_ .f32 := constant S_ .f32 0x3B124925#32
  let main_v4 : FVec F S3x2048x32 .f32 := broadcastInDim S3x2048x32 ![] bcast_S_S3x2048x32 main_cst_0
  let main_v5 : FVec F S3x2048x32 .f32 := mulf main_v3 main_v4
  let main_cst_1 : FVec F S_ .f32 := constant S_ .f32 0x00000000#32
  let main_v6 : FVec F S3x2048x32 .f32 := broadcastInDim S3x2048x32 ![] bcast_S_S3x2048x32 main_cst_1
  let main_v7 : IVec S3x2048x32 1 := cmpf .oeq main_v5 main_v6
  let main_cst_2 : FVec F S_ .f32 := constant S_ .f32 0x00800000#32
  let main_v8 : FVec F S3x2048x32 .f32 := broadcastInDim S3x2048x32 ![] bcast_S_S3x2048x32 main_cst_2
  let main_v9 : IVec S3x2048x32 1 := cmpf .oge main_v5 main_v8
  let main_cst_3 : FVec F S_ .f32 := constant S_ .f32 0x7E800000#32
  let main_v10 : FVec F S3x2048x32 .f32 := broadcastInDim S3x2048x32 ![] bcast_S_S3x2048x32 main_cst_3
  let main_v11 : IVec S3x2048x32 1 := cmpf .olt main_v5 main_v10
  let main_v12 : IVec S3x2048x32 1 := andi main_v9 main_v11
  let main_v13 : IVec S3x2048x32 1 := ori main_v7 main_v12
  main_v13
-- ==== Kernel.lean ====
abbrev S3x2048x4096 : Shape := ⟨3, ![3, 2048, 4096]⟩
abbrev S4096x1792 : Shape := ⟨2, ![4096, 1792]⟩
abbrev S32x14 : Shape := ⟨2, ![32, 14]⟩
abbrev S32x14x128 : Shape := ⟨3, ![32, 14, 128]⟩
abbrev S32x1792 : Shape := ⟨2, ![32, 1792]⟩
abbrev S6144x4096 : Shape := ⟨2, ![6144, 4096]⟩
abbrev S6144x1792 : Shape := ⟨2, ![6144, 1792]⟩
abbrev S6144x32 : Shape := ⟨2, ![6144, 32]⟩
abbrev S256x4096 : Shape := ⟨2, ![256, 4096]⟩
abbrev S256x1792 : Shape := ⟨2, ![256, 1792]⟩
abbrev S256x32 : Shape := ⟨2, ![256, 32]⟩
abbrev S256x128 : Shape := ⟨2, ![256, 128]⟩
abbrev S256 : Shape := ⟨1, ![256]⟩
abbrev S256x1 : Shape := ⟨2, ![256, 1]⟩
abbrev S128x1792 : Shape := ⟨2, ![128, 1792]⟩
abbrev S1x1792 : Shape := ⟨2, ![1, 1792]⟩

abbrev nBuf : Space → Nat
  | .hbm => 9
  | .vmem => 11
  | .smem => 0
  | _ => 0

abbrev bufTy : (tb : Table) → Fin (tcTables nBuf tb) → BufTy
  | .hbm, ⟨0, _⟩ => ⟨S3x2048x4096, .bf16⟩
  | .hbm, ⟨1, _⟩ => ⟨S4096x1792, .fp8e4m3⟩
  | .hbm, ⟨2, _⟩ => ⟨S32x14, .f32⟩
  | .hbm, ⟨3, _⟩ => ⟨S32x14x128, .f32⟩
  | .hbm, ⟨4, _⟩ => ⟨S32x1792, .f32⟩
  | .hbm, ⟨5, _⟩ => ⟨S6144x4096, .bf16⟩
  | .hbm, ⟨6, _⟩ => ⟨S6144x1792, .bf16⟩
  | .hbm, ⟨7, _⟩ => ⟨S6144x4096, .fp8e4m3⟩
  | .hbm, ⟨8, _⟩ => ⟨S6144x32, .f32⟩
  | .local _ .vmem, ⟨0, _⟩ => ⟨S256x4096, .bf16⟩
  | .local _ .vmem, ⟨1, _⟩ => ⟨S256x4096, .bf16⟩
  | .local _ .vmem, ⟨2, _⟩ => ⟨S4096x1792, .fp8e4m3⟩
  | .local _ .vmem, ⟨3, _⟩ => ⟨S32x1792, .f32⟩
  | .local _ .vmem, ⟨4, _⟩ => ⟨S256x1792, .bf16⟩
  | .local _ .vmem, ⟨5, _⟩ => ⟨S256x1792, .bf16⟩
  | .local _ .vmem, ⟨6, _⟩ => ⟨S256x4096, .fp8e4m3⟩
  | .local _ .vmem, ⟨7, _⟩ => ⟨S256x4096, .fp8e4m3⟩
  | .local _ .vmem, ⟨8, _⟩ => ⟨S256x32, .f32⟩
  | .local _ .vmem, ⟨9, _⟩ => ⟨S256x32, .f32⟩
  | .local _ .vmem, ⟨10, _⟩ => ⟨S256x1792, .f32⟩
  | _, _ => ⟨S3x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x2048x4096 : Shape := ⟨3, ![3, 2048, 4096]⟩
abbrev S4096x1792 : Shape := ⟨2, ![4096, 1792]⟩
abbrev S32x14 : Shape := ⟨2, ![32, 14]⟩
abbrev S6144x4096 : Shape := ⟨2, ![6144, 4096]⟩
abbrev S6144x1792 : Shape := ⟨2, ![6144, 1792]⟩
abbrev S6144x32 : Shape := ⟨2, ![6144, 32]⟩
abbrev S6144x32x128 : Shape := ⟨3, ![6144, 32, 128]⟩
abbrev S6144x32x1 : Shape := ⟨3, ![6144, 32, 1]⟩
abbrev S32x128x1792 : Shape := ⟨3, ![32, 128, 1792]⟩
abbrev S32x6144x128 : Shape := ⟨3, ![32, 6144, 128]⟩
abbrev S32x6144x1792 : Shape := ⟨3, ![32, 6144, 1792]⟩
abbrev S32x6144 : Shape := ⟨2, ![32, 6144]⟩
abbrev S32x6144x1 : Shape := ⟨3, ![32, 6144, 1]⟩
abbrev S32x14x1 : Shape := ⟨3, ![32, 14, 1]⟩
abbrev S32x14x128 : Shape := ⟨3, ![32, 14, 128]⟩
abbrev S32x1792 : Shape := ⟨2, ![32, 1792]⟩
abbrev S32x1x1792 : Shape := ⟨3, ![32, 1, 1792]⟩

abbrev nBuf : Space → Nat
  | .hbm => 7
  | .vmem => 6
  | .smem => 0
  | _ => 0

abbrev bufTy : (tb : Table) → Fin (tcTables nBuf tb) → BufTy
  | .hbm, ⟨0, _⟩ => ⟨S3x2048x4096, .bf16⟩
  | .hbm, ⟨1, _⟩ => ⟨S4096x1792, .fp8e4m3⟩
  | .hbm, ⟨2, _⟩ => ⟨S32x14, .f32⟩
  | .hbm, ⟨3, _⟩ => ⟨S6144x4096, .bf16⟩
  | .hbm, ⟨4, _⟩ => ⟨S6144x1792, .bf16⟩
  | .hbm, ⟨5, _⟩ => ⟨S6144x4096, .fp8e4m3⟩
  | .hbm, ⟨6, _⟩ => ⟨S6144x32, .f32⟩
  | .local _ .vmem, ⟨0, _⟩ => ⟨S6144x4096, .bf16⟩
  | .local _ .vmem, ⟨1, _⟩ => ⟨S4096x1792, .fp8e4m3⟩
  | .local _ .vmem, ⟨2, _⟩ => ⟨S32x14, .f32⟩
  | .local _ .vmem, ⟨3, _⟩ => ⟨S6144x1792, .bf16⟩
  | .local _ .vmem, ⟨4, _⟩ => ⟨S6144x4096, .fp8e4m3⟩
  | .local _ .vmem, ⟨5, _⟩ => ⟨S6144x32, .f32⟩
  | _, _ => ⟨S3x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1792 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x14 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Block.lean ====
/- What one grid point of the kernel leaves in its three output blocks, as functions of the point's input blocks: every
   group of 128 columns goes through the SAME four functions (`scaleG`, `codesG`, `partG`, the running sum `accG`). -/
module

public import proofs.«01_k».proof.Proof.Gen.KernelIdeal.Value
public import Idealize.ShloMosaic.Lib.Pipeline.ValueKit

@[expose] public section

set_option maxRecDepth 16384

noncomputable section

namespace Cert.KernelIdeal.Block

open Cert.KernelIdeal Cert.KernelIdeal.Gen Idealize.ShloMosaic Idealize.ShloMosaic.TcCoe Idealize.SL.Sem

variable {F : FTy → Type} [FloatOps F]

/-! ## One group of 128 columns -/

/-- The scales of a group's rows (one per row), from the group's columns of `x`. -/
def scaleG (v : Vec F S256x128 .bf16) : FVec F S256x1 .f32 := k0_pay7 (k0_pay2 v) (k0_pay3 v) k0_pay4

/-- The codes of a group, from the group's columns of `x`. -/
def codesG (v : Vec F S256x128 .bf16) : FVec F S256x128 .fp8e4m3 := k0_pay8 (k0_pay1 v) (k0_pay2 v) (k0_pay3 v) k0_pay4

/-- A group's part of `y`: codes times weight codes, scaled by the row scales and by the group's weight scales. -/
def partG (v : Vec F S256x128 .bf16) (w : Vec F S128x1792 .fp8e4m3) (s : Vec F S1x1792 .f32) : FVec F S256x1792 .f32 :=
  have d : FVec F S256x1792 .f32 := matmul dot_S256x128_S128x1792_S256x1792_1_0_0_1_n_n none (codesG v) w (constant S256x1792 .f32 0x00000000#32)
  mulf (mulf d (broadcastTo S256x1792 (scaleG v) broadcasts_S256x1_S256x1792))
    (broadcastTo S256x1792 (shapeCast S1x1792 s shapeCasts_S1x1792_S1x1792 : FVec F S1x1792 .f32) broadcasts_S1x1792_S256x1792)

/-- The first group's columns start inside the block, and so do every other group's. -/
theorem xInb {n : Nat} (h : n < 32) : ∀ a, (![0, 128 * n] : Fin 2 → Nat) a + S256x128.size a ≤ S256x4096.size a := by
  intro a; fin_cases a
  · show 0 + 256 ≤ 256; omega
  · show 128 * n + 128 ≤ 4096; omega

/-- A group's 128 rows of the weight codes lie inside them. -/
theorem wInb {n : Nat} (h : n < 32) : ∀ a, (![128 * n, 0] : Fin 2 → Nat) a + S128x1792.size a ≤ S4096x1792.size a := by
  intro a; fin_cases a
  · show 128 * n + 128 ≤ 4096; omega
  · show 0 + 1792 ≤ 1792; omega

/-- A group's row of the repeated weight scales lies inside them. -/
theorem sInb {n : Nat} (h : n < 32) : ∀ a, (![n, 0] : Fin 2 → Nat) a + S1x1792.size a ≤ S32x1792.size a := by
  intro a; fin_cases a
  · show n + 1 ≤ 32; omega
  · show 0 + 1792 ≤ 1792; omega

/-- Group `n`'s columns of a block of `x`. -/
def xg (x0 : Vec F S256x4096 .bf16) (n : Nat) (h : n < 32) : Vec F S256x128 .bf16 :=
  View.ld x0 (Rect.unit (s := S256x4096) ![0, 128 * n] S256x128.size (xInb h))

/-- Group `n`'s rows of the weight codes. -/
def wg (x1 : Vec F S4096x1792 .fp8e4m3) (n : Nat) (h : n < 32) : Vec F S128x1792 .fp8e4m3 :=
  View.ld x1 (Rect.unit (s := S4096x1792) ![128 * n, 0] S128x1792.size (wInb h))

/-- Group `n`'s row of the repeated weight scales. -/
def sg (x2 : Vec F S32x1792 .f32) (n : Nat) (h : n < 32) : Vec F S1x1792 .f32 :=
  View.ld x2 (Rect.unit (s := S32x1792) ![n, 0] S1x1792.size (sInb h))

/-- The accumulator after group `n`: the parts of the groups `0 … n`, added in that order. -/
def accG (x0 : Vec F S256x4096 .bf16) (x1 : Vec F S4096x1792 .fp8e4m3) (x2 : Vec F S32x1792 .f32) :
    (n : Nat) → n < 32 → FVec F S256x1792 .f32
  | 0, h => shapeCast S256x1792 (partG (xg x0 0 h) (wg x1 0 h) (sg x2 0 h)) shapeCasts_S256x1792_S256x1792
  | n + 1, h => shapeCast S256x1792 (addf (accG x0 x1 x2 n (Nat.lt_of_succ_lt h))
      (partG (xg x0 (n + 1) h) (wg x1 (n + 1) h) (sg x2 (n + 1) h))) shapeCasts_S256x1792_S256x1792

/-- The codes of a whole block: column `k` is in group `k / 128`, at `k % 128` there. -/
def codesBlk (x0 : Vec F S256x4096 .bf16) (y : S256x4096.Idx) : F .fp8e4m3 :=
  codesG (xg x0 ((y 1).val / 128) (by have h : (y 1).val < 4096 := (y 1).isLt; omega))
    (ix2 (n0 := 256) (n1 := 128) (y 0) ⟨(y 1).val % 128, Nat.mod_lt _ (by decide)⟩)

variable (c : Dev nD) (i : grid0.Coords) (arg1 : Memref sig .tc .vmem S256x4096 .bf16) (harg1 : arg1.IsWhole) (arg2 : Memref sig .tc .vmem S4096x1792 .fp8e4m3) (harg2 : arg2.IsWhole) (arg3 : Memref sig .tc .vmem S32x1792 .f32) (harg3 : arg3.IsWhole) (arg4 : Memref sig .tc .vmem S256x1792 .bf16) (harg4 : arg4.IsWhole) (arg5 : Memref sig .tc .vmem S256x4096 .fp8e4m3) (harg5 : arg5.IsWhole) (arg6 : Memref sig .tc .vmem S256x32 .f32) (harg6 : arg6.IsWhole) (arg7 : Memref sig .tc .vmem S256x1792 .f32) (harg7 : arg7.IsWhole)
    (x0 : Vec F S256x4096 .bf16) (x1 : Vec F S4096x1792 .fp8e4m3) (x2 : Vec F S32x1792 .f32)

/-- A group's columns depend on the group's number only. -/
theorem xg_congr {n n' : Nat} (h : n < 32) (h' : n' < 32) (e : n = n') : xg x0 n h = xg x0 n' h' := by subst e; rfl

/-- A stored piece of the codes, `o` columns in, is the block's codes where the piece lies. -/
theorem codes_piece (o : Nat) (hm : o % 128 = 0) (h : o / 128 < 32) (w : FVec F S256x128 .fp8e4m3)
    (hw : w = codesG (xg x0 (o / 128) h)) (inb) (x : S256x128.Idx) :
    w x = codesBlk x0 ((Rect.unit (s := S256x4096) ![0, o] S256x128.size inb).emb x) := by
  subst hw
  have h1 : (x 1).val < 128 := (x 1).isLt
  have e1 : ((Rect.unit (s := S256x4096) ![0, o] S256x128.size inb).emb x 1).val = o + (x 1).val :=
    ValueKit.rect_emb_unit_val _ _ _ _ _
  have e0 : ((Rect.unit (s := S256x4096) ![0, o] S256x128.size inb).emb x 0).val = 0 + (x 0).val :=
    ValueKit.rect_emb_unit_val _ _ _ _ _
  unfold codesBlk
  refine congr (congrArg codesG (xg_congr x0 _ _ (by rw [e1]; omega))) (funext fun a => ?_)
  match a with
  | ⟨0, _⟩ => exact Fin.ext (((Nat.zero_add _).symm.trans e0.symm))
  | ⟨1, _⟩ => exact Fin.ext (show (x 1).val = ((Rect.unit (s := S256x4096) ![0, o] S256x128.size inb).emb x 1).val % 128 by rw [e1]; omega)

/-- What a point leaves in its block of the codes. -/
theorem out4 : out0_A_4 c i arg1 harg1 arg2 harg2 arg3 harg3 arg4 harg4 arg5 harg5 arg6 harg6 arg7 harg7 x0 x1 x2 = codesBlk x0 := by
  unfold out0_A_4
  rw [View.read_writes_junk_eq_canon]
  funext y
  refine View.canon_apply_of_pieces (Val := Elt F) (e := .fp8e4m3) (codesBlk x0) _ ?_ y
    (cover0_A_4 c i arg1 harg1 arg2 harg2 arg3 harg3 arg4 harg4 arg5 harg5 arg6 harg6 arg7 harg7 x0 x1 x2 y)
  unfold kernelRun0_A; dsimp only
  sl_unfold_words
  simp only [View.readAt_eq_ld, harg1.read_unread, List.forall_mem_cons]
  repeat' apply And.intro
  on_goal 33 => exact fun _ h => nomatch h
  all_goals intro x
  all_goals refine codes_piece x0 _ (by decide) (by decide) _ ?_ _ x
  all_goals rfl

/-- What a point leaves in its block of the scales. -/
theorem out5 : out0_A_5 c i arg1 harg1 arg2 harg2 arg3 harg3 arg4 harg4 arg5 harg5 arg6 harg6 arg7 harg7 x0 x1 x2
    = concatenate S256x32 1 (List.ofFn fun n : Fin 32 => ⟨S256x1, scaleG (xg x0 n.val n.isLt)⟩)
        concatenates_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x1_S256x32_d1 := by
  unfold out0_A_5
  rw [View.read_writes_junk_eq_canon]
  unfold kernelRun0_A; dsimp only
  sl_unfold_words
  simp only [View.readAt_eq_ld, harg1.read_unread]
  rw [View.canon_unit_zero (by funext a; fin_cases a <;> rfl)]
  rfl

/-- What a point leaves in its block of `y`. -/
theorem out3 : out0_A_3 c i arg1 harg1 arg2 harg2 arg3 harg3 arg4 harg4 arg5 harg5 arg6 harg6 arg7 harg7 x0 x1 x2
    = k0_pay302 (accG x0 x1 x2 31 (by decide)) := by
  unfold out0_A_3
  rw [View.read_writes_junk_eq_canon]
  unfold kernelRun0_A; dsimp only
  sl_unfold_words
  simp only [View.readAt_eq_ld, harg1.read_unread, harg2.read_unread, harg3.read_unread, View.readCov_cons_toLoadRect]
  rw [View.canon_unit_zero (by funext a; fin_cases a <;> rfl)]
  rfl

end Cert.KernelIdeal.Block
-- ==== Proof.Exponent.lean ====
/- The power-of-two scale of a group, on the extended reals: the kernel finds the exponent word of a group's
   `t = amax * (1/448)` bit by bit, by comparisons, and builds the scale and its inverse from that word; the reference
   computes `floor (log2 t) + 1` and takes powers of two. On the precondition's range the two agree. -/
module

public import Idealize.ShloMosaic.PureOps.Ideal

@[expose] public section

noncomputable section

namespace Cert.Exponent

open Idealize.ShloMosaic

/-- The f32 word with exponent field `E` and nothing else. -/
def word (E : Nat) : BitVec 32 := BitVec.ofNat 32 (E * 8388608)

/-- The value of that word: `0` at field `0`, a power of two up to field `254`, infinite at `255`. -/
def pw (E : Nat) : EReal := if E = 0 then 0 else if E < 255 then (((2 : ℝ) ^ ((E : Int) - 127) : ℝ) : EReal) else ⊤

/-- The fields of an exponent word: sign clear, its exponent, no trailing bits. -/
theorem word_fields : ∀ E : Fin 256, (word E.val).extractLsb' 31 1 = 0#1 ∧ ((word E.val).extractLsb' 23 8).toNat = E.val
    ∧ ((word E.val).extractLsb' 0 23).toNat = 0 := by decide +kernel

/-- What an exponent word denotes. -/
theorem ofBits_word (E : Nat) (h : E < 256) : Ideal.ofBits .f32 (word E) = pw E := by
  obtain ⟨h1, h2, h3⟩ := word_fields ⟨E, h⟩
  have h0 : (0#1 == 1#1) = false := rfl
  simp only [Ideal.ofBits, Ideal.ieee, h1, h2, h3, Nat.reduceAdd, h0]
  unfold pw
  by_cases e0 : E = 0
  · simp [e0]
  · by_cases e1 : E = 255
    · simp [e1]
    · have e2 : E < 255 := by omega
      have e3 : ¬ E = 2 ^ 8 - 1 := by norm_num; exact e1
      rw [if_neg e3, if_neg e0, if_neg e0, if_pos e2]
      congr 1
      have : ((E : Int) - 127) = 23 + (((E : Int) - (2 ^ (8 - 1) - 1)) - 23) := by norm_num
      rw [this, zpow_add₀ (by norm_num : (2 : ℝ) ≠ 0)]
      norm_num

/-- The sum of two exponent words. -/
theorem word_add (E n : Nat) : word E + word n = word (E + n) := by
  simp only [word, Nat.add_mul, BitVec.ofNat_add]

/-- One step of the search: keep the field, or add `k` to it where the word so made is not above `t`. -/
def step (t : EReal) (k eb : BitVec 32) : BitVec 32 := if t < Ideal.ofBits .f32 (eb + k) then eb else eb + k

/-- The whole search, from the top bit of the exponent field to the bottom one. -/
def search (t : EReal) : BitVec 32 :=
  step t 8388608#32 (step t 16777216#32 (step t 33554432#32 (step t 67108864#32 (step t 134217728#32
    (step t 268435456#32 (step t 536870912#32 (step t 1073741824#32 0#32)))))))

/-- The state of the search before the step of width `n`: a field `E` below `t`, with `t` below the word `2 * n` up. -/
def Inv (t : EReal) (n : Nat) (eb : BitVec 32) : Prop :=
  ∃ E, eb = word E ∧ E + n ≤ 256 ∧ pw E ≤ t ∧ (E + n ≤ 255 → t < pw (E + n))

/-- A step of width `n` halves the interval. -/
theorem step_inv (t : EReal) (n : Nat) (hn : 0 < n) (eb : BitVec 32) (h : Inv t (2 * n) eb) : Inv t n (step t (word n) eb) := by
  obtain ⟨E, rfl, hE, lo, hi⟩ := h
  unfold step
  rw [word_add, ofBits_word _ (by omega)]
  split
  · next c => exact ⟨E, rfl, by omega, lo, fun _ => c⟩
  · next c => exact ⟨E + n, rfl, by omega, not_lt.mp c, fun h' => by
      have := hi (by omega)
      rwa [show E + 2 * n = E + n + n by omega] at this⟩

/-- The search ends on the exponent of `t`. -/
theorem search_inv (t : EReal) (h : 0 ≤ t) : Inv t 1 (search t) := by
  have h0 : Inv t (2 * 128) 0#32 := ⟨0, rfl, by omega, by simpa [pw] using h, fun h => by omega⟩
  exact step_inv t 1 (by omega) _ (step_inv t 2 (by omega) _ (step_inv t 4 (by omega) _ (step_inv t 8 (by omega) _
    (step_inv t 16 (by omega) _ (step_inv t 32 (by omega) _ (step_inv t 64 (by omega) _ (step_inv t 128 (by omega) _ h0)))))))

/-- The kernel's scale from `t`. -/
def kscale (t : EReal) : EReal := if search t = 0#32 then Ideal.ofBits .f32 0x3F800000#32 else Ideal.ofBits .f32 (search t + 8388608#32)

/-- The kernel's inverse scale from `t`. -/
def kinv (t : EReal) : EReal := if search t = 0#32 then Ideal.ofBits .f32 0x3F800000#32 else Ideal.ofBits .f32 (2122317824#32 - search t)

/-- The constant `1/448`, as f32 has it. -/
def c448 : EReal := Ideal.ofBits .f32 0x3B124925#32

/-- The reference's exponent of a group with greatest magnitude `a`. -/
def eOf (a : EReal) : EReal :=
  if a = Ideal.ofBits .f32 0x00000000#32 then Ideal.ofBits .f32 0x00000000#32
  else Ideal.liftRound Int.floor (Ideal.div (Ideal.log (a * c448)) (Ideal.log (Ideal.ofBits .f32 0x40000000#32)))
    + Ideal.ofBits .f32 0x3F800000#32

/-- The reference's scale. -/
def scaleOf (a : EReal) : EReal := Ideal.exp2 (eOf a)

/-- The reference's inverse scale. -/
def invOf (a : EReal) : EReal := Ideal.exp2 (Ideal.ofBits .f32 0x00000000#32 - eOf a)

/-- The precondition, of one group: `t` is zero, or a normal number below `2^126`. -/
def InRange (t : EReal) : Prop :=
  t = Ideal.ofBits .f32 0x00000000#32 ∨ (Ideal.ofBits .f32 0x00800000#32 ≤ t ∧ t < Ideal.ofBits .f32 0x7E800000#32)

/-- The word 0 is the float zero. -/
theorem bits_zero : Ideal.ofBits .f32 0x00000000#32 = 0 := (ofBits_word 0 (by decide)).trans (by simp [pw])
/-- The word of the float one. -/
theorem bits_one : Ideal.ofBits .f32 0x3F800000#32 = 1 := (ofBits_word 127 (by decide)).trans (by simp [pw])
/-- The word of the float two. -/
theorem bits_two : Ideal.ofBits .f32 0x40000000#32 = ((2 : ℝ) : EReal) := (ofBits_word 128 (by decide)).trans (by norm_num [pw])
/-- The word of the least normal float is the power with exponent field 1. -/
theorem bits_lo : Ideal.ofBits .f32 0x00800000#32 = pw 1 := ofBits_word 1 (by decide)
/-- The word of 2^126 is the power with exponent field 253. -/
theorem bits_hi : Ideal.ofBits .f32 0x7E800000#32 = pw 253 := ofBits_word 253 (by decide)

/-- The factor 1/448 is not zero. -/
theorem c448_ne : c448 ≠ 0 := by
  have h1 : (0x3B124925#32 : BitVec 32).extractLsb' 31 1 = 0#1 := by decide
  have h2 : ((0x3B124925#32 : BitVec 32).extractLsb' 23 8).toNat = 118 := by decide
  have h3 : ((0x3B124925#32 : BitVec 32).extractLsb' 0 23).toNat = 1198373 := by decide
  have h0 : (0#1 == 1#1) = false := rfl
  unfold c448
  simp only [Ideal.ofBits, Ideal.ieee, h1, h2, h3, Nat.reduceAdd, h0]
  norm_num

/-- A finite nonzero `t` in range has its logarithm's floor at the exponent of its word. -/
theorem floor_log {r : ℝ} {E : Nat} (h1 : (2 : ℝ) ^ ((E : Int) - 127) ≤ r) (h2 : r < (2 : ℝ) ^ ((E : Int) - 126)) :
    ⌊Real.log r * (Real.log 2)⁻¹⌋ = (E : Int) - 127 := by
  have hp : 0 < r := lt_of_lt_of_le (by positivity) h1
  have hl2 : 0 < Real.log 2 := Real.log_pos (by norm_num)
  rw [← div_eq_mul_inv, Int.floor_eq_iff]
  constructor
  · rw [le_div_iff₀ hl2, ← Real.log_zpow]
    exact Real.log_le_log (by positivity) h1
  · have : (((E : Int) - 127 : Int) : ℝ) + 1 = (((E : Int) - 126 : Int) : ℝ) := by push_cast; ring
    rw [this, div_lt_iff₀ hl2, ← Real.log_zpow]
    exact Real.log_lt_log hp h2

/-- The exponent of a nonzero in-range group, and the word the search ends on. -/
theorem exponent {a : EReal} (h : InRange (a * c448)) (ha : a ≠ 0) :
    ∃ E : Nat, 1 ≤ E ∧ E < 253 ∧ search (a * c448) = word E ∧ eOf a = ((((E : Int) - 126 : Int) : ℝ) : EReal) := by
  have hne : a * c448 ≠ 0 := mul_ne_zero ha c448_ne
  unfold InRange at h
  rw [bits_zero, bits_lo, bits_hi] at h
  obtain ⟨hlo, hhi⟩ := h.resolve_left hne
  have p1 : pw 1 = (((2 : ℝ) ^ (-126 : Int) : ℝ) : EReal) := by norm_num [pw]
  have p253 : pw 253 = (((2 : ℝ) ^ (126 : Int) : ℝ) : EReal) := by norm_num [pw]
  have hp : (0 : EReal) ≤ a * c448 := le_trans (by rw [p1]; exact_mod_cast (by positivity : (0 : ℝ) ≤ 2 ^ (-126 : Int))) hlo
  obtain ⟨E, hE, hE', lo, hi⟩ := search_inv _ hp
  unfold eOf
  rw [bits_zero, if_neg ha, bits_one, bits_two]
  generalize a * c448 = t at *
  induction t using EReal.rec with
  | bot => simp at hp
  | top => rw [p253] at hhi; simp at hhi
  | coe r =>
    have hr : (0 : ℝ) < r := by
      rw [p1] at hlo
      exact lt_of_lt_of_le (by positivity : (0 : ℝ) < 2 ^ (-126 : Int)) (by exact_mod_cast hlo)
    have hE1 : 1 ≤ E := by
      by_contra hc
      have e0 : E = 0 := by omega
      subst e0
      exact absurd (hi (by omega)) (not_lt.mpr hlo)
    have hE2 : E < 253 := by
      by_contra hc
      have := lt_of_le_of_lt lo hhi
      rw [p253] at this
      unfold pw at this
      rw [if_neg (by omega)] at this
      split at this
      · have h2 : (2 : ℝ) ^ ((E : Int) - 127) < 2 ^ (126 : Int) := by exact_mod_cast this
        have := (zpow_lt_zpow_iff_right₀ (by norm_num : (1 : ℝ) < 2)).mp h2
        omega
      · simp at this
    refine ⟨E, hE1, hE2, hE, ?_⟩
    have lo' : (2 : ℝ) ^ ((E : Int) - 127) ≤ r := by
      unfold pw at lo; rw [if_neg (by omega), if_pos (by omega)] at lo; exact_mod_cast lo
    have hi' : r < (2 : ℝ) ^ ((E : Int) - 126) := by
      have := hi (by omega)
      unfold pw at this; rw [if_neg (by omega), if_pos (by omega)] at this
      have h3 : (((E + 1 : Nat) : Int) - 127) = (E : Int) - 126 := by push_cast; ring
      rw [h3] at this
      exact_mod_cast this
    have hl2 : Real.log 2 ≠ 0 := (Real.log_pos (by norm_num)).ne'
    have e1 : Ideal.log ((r : ℝ) : EReal) = ((Real.log r : ℝ) : EReal) := if_neg (not_le.mpr hr)
    have e2 : Ideal.log ((2 : ℝ) : EReal) = ((Real.log 2 : ℝ) : EReal) := if_neg (by norm_num)
    have e3 : Ideal.div ((Real.log r : ℝ) : EReal) ((Real.log 2 : ℝ) : EReal) = ((Real.log r * (Real.log 2)⁻¹ : ℝ) : EReal) := by
      unfold Ideal.div
      rw [if_neg (by exact_mod_cast hl2), EReal.coe_mul, EReal.coe_inv]
    rw [e1, e2, e3]
    show (((⌊Real.log r * (Real.log 2)⁻¹⌋ : ℤ) : ℝ) : EReal) + 1 = _
    rw [floor_log lo' hi']
    rw [show (1 : EReal) = ((1 : ℝ) : EReal) from rfl, ← EReal.coe_add]
    congr 1
    push_cast; ring

/-- A zero group: the search ends on the zero word. -/
theorem search_zero : search 0 = 0#32 := by
  obtain ⟨E, hE, hE', lo, -⟩ := search_inv 0 le_rfl
  rw [hE]
  by_cases e0 : E = 0
  · subst e0; rfl
  · exfalso
    unfold pw at lo
    rw [if_neg e0] at lo
    split at lo
    · have h2 : (2 : ℝ) ^ ((E : Int) - 127) ≤ 0 := by exact_mod_cast lo
      exact absurd h2 (not_le.mpr (by positivity))
    · simp at lo

/-- The exponent word of a nonzero field is not zero. -/
theorem word_ne {E : Nat} (h1 : 1 ≤ E) (h2 : E < 256) : word E ≠ 0#32 := by
  intro h
  have := congrArg BitVec.toNat h
  simp only [word, BitVec.toNat_ofNat] at this
  omega

/-- The kernel's scale is the reference's, in range. -/
theorem kscale_eq {a : EReal} (h : InRange (a * c448)) : kscale (a * c448) = scaleOf a := by
  by_cases ha : a = 0
  · subst ha
    rw [zero_mul]
    unfold kscale scaleOf eOf
    rw [search_zero, bits_zero, bits_one, if_pos rfl, if_pos rfl]
    show (1 : EReal) = ((Real.rpow 2 0 : ℝ) : EReal)
    norm_num
  · obtain ⟨E, h1, h2, hs, he⟩ := exponent h ha
    unfold kscale scaleOf
    rw [hs, he, if_neg (word_ne h1 (by omega)), show (8388608#32) = word 1 from rfl, word_add, ofBits_word _ (by omega)]
    unfold pw
    rw [if_neg (by omega), if_pos (by omega)]
    show _ = ((Real.rpow 2 _ : ℝ) : EReal)
    rw [Real.rpow_eq_pow, Real.rpow_intCast]
    congr 2
    push_cast; ring

/-- The kernel's inverse scale is the reference's, in range. -/
theorem kinv_eq {a : EReal} (h : InRange (a * c448)) : kinv (a * c448) = invOf a := by
  by_cases ha : a = 0
  · subst ha
    rw [zero_mul]
    unfold kinv invOf eOf
    rw [search_zero, bits_zero, bits_one, if_pos rfl, if_pos rfl, sub_zero]
    show (1 : EReal) = ((Real.rpow 2 0 : ℝ) : EReal)
    norm_num
  · obtain ⟨E, h1, h2, hs, he⟩ := exponent h ha
    unfold kinv invOf
    have hw : 2122317824#32 - word E = word (253 - E) := by
      have hs : word 253 = word (253 - E) + word E := by rw [word_add, Nat.sub_add_cancel (by omega)]
      rw [show (2122317824#32) = word 253 from rfl, hs, BitVec.add_sub_cancel]
    rw [hs, he, if_neg (word_ne h1 (by omega)), hw, ofBits_word _ (by omega), bits_zero, zero_sub]
    unfold pw
    rw [if_neg (by omega), if_pos (by omega), ← EReal.coe_neg]
    show _ = ((Real.rpow 2 _ : ℝ) : EReal)
    rw [Real.rpow_eq_pow, ← Int.cast_neg, Real.rpow_intCast]
    congr 2
    omega

end Cert.Exponent
-- ==== Proof.Spec.lean ====
/- What both programs compute for one row of the activations, on the extended reals. -/
module

public import proofs.«01_k».proof.Proof.Exponent
public import Idealize.ShloMosaic.Lib.Pointwise
public import Mathlib.Algebra.BigOperators.Fin
public import Mathlib.Data.Finset.Fold

@[expose] public section

noncomputable section

namespace Cert.Spec

open Idealize.ShloMosaic Cert.Exponent

/-- Column `k` of group `g`. -/
def col (g : Fin 32) (k : Fin 128) : Fin 4096 := ⟨g.val * 128 + k.val, by omega⟩

/-- The greatest magnitude of a row's group. -/
def amax (x : Fin 4096 → EReal) (g : Fin 32) : EReal :=
  Finset.univ.fold max (Ideal.ofBits .f32 0xFF800000#32) fun k : Fin 128 => max (x (col g k)) (-(x (col g k)))

/-- The precondition on one group of a row. -/
def Ok (x : Fin 4096 → EReal) (g : Fin 32) : Prop := InRange (amax x g * c448)

/-- A group's scale. -/
def scale (x : Fin 4096 → EReal) (g : Fin 32) : EReal := scaleOf (amax x g)

/-- An element's code: the element over the scale, clipped to the format's range. -/
def code (x : Fin 4096 → EReal) (g : Fin 32) (k : Fin 128) : EReal :=
  min (Ideal.ofBits .f32 0x43E00000#32) (max (Ideal.ofBits .f32 0xC3E00000#32) (x (col g k) * invOf (amax x g)))

/-- The group a column belongs to. -/
def grp (k : Fin 4096) : Fin 32 := ⟨k.val / 128, by omega⟩
/-- The place of a column in its group. -/
def pos (k : Fin 4096) : Fin 128 := ⟨k.val % 128, Nat.mod_lt _ (by decide)⟩

/-- The block of 128 output columns a column belongs to. -/
def blk (j : Fin 1792) : Fin 14 := ⟨j.val / 128, by omega⟩

/-- One group's part of an output element. -/
def part (x : Fin 4096 → EReal) (w : Fin 4096 → Fin 1792 → EReal) (s : Fin 32 → Fin 14 → EReal) (j : Fin 1792) (g : Fin 32) : EReal :=
  (∑ k : Fin 128, code x g k * w (col g k) j) * scale x g * s g (blk j)

/-- An output element: the groups' parts, summed. -/
def out (x : Fin 4096 → EReal) (w : Fin 4096 → Fin 1792 → EReal) (s : Fin 32 → Fin 14 → EReal) (j : Fin 1792) : EReal :=
  ∑ g : Fin 32, part x w s j g

/-! ## The whole arrays -/

/-- Row `r` of the activations, the two leading axes taken as one. -/
def rowOf (x : FVec Ideal ⟨3, ![3, 2048, 4096]⟩ .bf16) (r : Fin 6144) : Fin 4096 → EReal :=
  fun k => x (ix3 (n0 := 3) (n1 := 2048) (n2 := 4096) ⟨r.val / 2048, by omega⟩ ⟨r.val % 2048, Nat.mod_lt _ (by decide)⟩ k)

/-- The precondition on every group of every row. -/
def AllOk (x : FVec Ideal ⟨3, ![3, 2048, 4096]⟩ .bf16) : Prop := ∀ r g, Ok (rowOf x r) g

/-- The output array `y`. -/
def yArr (x : FVec Ideal ⟨3, ![3, 2048, 4096]⟩ .bf16) (w : FVec Ideal ⟨2, ![4096, 1792]⟩ .fp8e4m3) (s : FVec Ideal ⟨2, ![32, 14]⟩ .f32) :
    FVec Ideal ⟨2, ![6144, 1792]⟩ .bf16 :=
  fun i => out (rowOf x (i 0)) (fun k j => w (ix2 k j)) (fun g b => s (ix2 g b)) (i 1)

/-- The array of codes. -/
def codesArr (x : FVec Ideal ⟨3, ![3, 2048, 4096]⟩ .bf16) : FVec Ideal ⟨2, ![6144, 4096]⟩ .fp8e4m3 :=
  fun i => code (rowOf x (i 0)) (grp (i 1)) (pos (i 1))

/-- The array of scales. -/
def scalesArr (x : FVec Ideal ⟨3, ![3, 2048, 4096]⟩ .bf16) : FVec Ideal ⟨2, ![6144, 32]⟩ .f32 :=
  fun i => scale (rowOf x (i 0)) (i 1)

end Cert.Spec
-- ==== Proof.KernelPure.lean ====
/- The kernel's block values at the extended reals, in the terms both programs share (`Cert.Spec`). -/
module

public import proofs.«01_k».proof.Proof.Block
public import proofs.«01_k».proof.Proof.Spec
public import Idealize.ShloMosaic.Lib.Pointwise

@[expose] public section

set_option maxRecDepth 16384

noncomputable section

namespace Cert.KernelIdeal.Pure

open Cert.KernelIdeal Cert.KernelIdeal.Gen Cert.KernelIdeal.Block Cert.Exponent Idealize.ShloMosaic Idealize.ShloMosaic.TcCoe Idealize.SL.Sem

/-- A select on an equality of words. -/
theorem select_eq {α : Type} (a b : BitVec 32) (x y : α) :
    Scalar.select (IntOp.cmpi .eq a b) x y = if a = b then x else y := by
  by_cases h : a = b
  · simp [Scalar.select, IntOp.cmpi, h]
  · have hb : (a == b) = false := by simpa using h
    simp [Scalar.select, IntOp.cmpi, h, hb]

/-- One step of the exponent search on a vector of rows. -/
def stepV (t : FVec Ideal S256x1 .f32) (k : BitVec 32) (eb : IVec S256x1 32) : IVec S256x1 32 :=
  select (cmpf .olt t (bitcastToFloat .f32 (addi eb (broadcast S256x1 k)))) eb (addi eb (broadcast S256x1 k))

/-- It is the scalar step in every row. -/
theorem stepV_apply (t : FVec Ideal S256x1 .f32) (k : BitVec 32) (eb : IVec S256x1 32) (j : S256x1.Idx) :
    stepV t k eb j = step (t j) k (eb j) := by
  pointwise [stepV, step]
  rfl

/-- The exponent words of a group's rows are the scalar search's. -/
theorem exponents (v : Vec Ideal S256x128 .bf16) (j : S256x1.Idx) :
    k0_pay5 (k0_pay2 v) (k0_pay3 v) k0_pay4 j = search (k0_pay2 v j) := by
  have h : k0_pay5 (k0_pay2 v) (k0_pay3 v) k0_pay4 = stepV (k0_pay2 v) 8388608#32 (stepV (k0_pay2 v) 16777216#32 (stepV (k0_pay2 v) 33554432#32
    (stepV (k0_pay2 v) 67108864#32 (stepV (k0_pay2 v) 134217728#32 (stepV (k0_pay2 v) 268435456#32 (stepV (k0_pay2 v) 536870912#32
    (stepV (k0_pay2 v) 1073741824#32 (broadcast S256x1 0#32)))))))) := rfl
  rw [h]
  simp only [stepV_apply]
  rfl

/-- A group's `t` in row `r`. -/
theorem t_apply (x0 : Vec Ideal S256x4096 .bf16) (n : Fin 32) (r : Fin 256) (z : Fin 1) :
    k0_pay2 (xg x0 n.val n.isLt) (ix2 r z) =
      max (Spec.amax (fun k => x0 (ix2 r k)) n * c448) (-(Spec.amax (fun k => x0 (ix2 r k)) n * c448)) := by
  pointwise [k0_pay2, k0_pay1, xg, Spec.amax, Spec.col, c448]
  simp only [Nat.mul_comm 128]
  rfl

/-- In range, the magnitude taken of `t` is `t`. -/
theorem max_neg {t : EReal} (h : InRange t) : max t (-t) = t := by
  have h0 : 0 ≤ t := by
    rcases h with h | h
    · rw [h, bits_zero]
    · refine le_trans ?_ h.1
      rw [bits_lo]; norm_num [pw]
  exact max_eq_left (le_trans (EReal.neg_le_zero.mpr h0) h0)

/-- A group's scale in row `r`. -/
theorem scaleG_apply (x0 : Vec Ideal S256x4096 .bf16) (n : Fin 32) (r : Fin 256) (z : Fin 1)
    (h : Spec.Ok (fun k => x0 (ix2 r k)) n) :
    scaleG (xg x0 n.val n.isLt) (ix2 r z) = Spec.scale (fun k => x0 (ix2 r k)) n := by
  have e := exponents (xg x0 n.val n.isLt) (ix2 r z)
  rw [t_apply, max_neg h] at e
  unfold Spec.scale
  rw [← kscale_eq h]
  unfold kscale
  rw [← e]
  unfold scaleG k0_pay7 k0_pay6
  generalize k0_pay5 (k0_pay2 (xg x0 n.val n.isLt)) (k0_pay3 (xg x0 n.val n.isLt)) k0_pay4 = eb
  pointwise
  exact select_eq _ _ _ _

/-- A group's code at row `r`, column `k` of the group. -/
theorem codesG_apply (x0 : Vec Ideal S256x4096 .bf16) (n : Fin 32) (r : Fin 256) (k : Fin 128)
    (h : Spec.Ok (fun k => x0 (ix2 r k)) n) :
    codesG (xg x0 n.val n.isLt) (ix2 r k) = Spec.code (fun k => x0 (ix2 r k)) n k := by
  have e := exponents (xg x0 n.val n.isLt) (ix2 r 0)
  rw [t_apply, max_neg h] at e
  unfold Spec.code
  rw [← kinv_eq h]
  unfold kinv
  rw [← e]
  unfold codesG k0_pay8 k0_pay6 k0_pay1
  generalize k0_pay5 (k0_pay2 (xg x0 n.val n.isLt)) (k0_pay3 (xg x0 n.val n.isLt)) k0_pay4 = eb
  pointwise [xg, Spec.col]
  rw [select_eq]
  simp only [Nat.mul_comm 128]
  rfl

/-- Group `n`'s part of `y`, at row `r` and column `j`. -/
theorem partG_apply (x0 : Vec Ideal S256x4096 .bf16) (x1 : Vec Ideal S4096x1792 .fp8e4m3) (x2 : Vec Ideal S32x1792 .f32)
    (s : Fin 32 → Fin 14 → EReal) (hs : ∀ (g : Fin 32) (j : Fin 1792), x2 (ix2 g j) = s g (Spec.blk j))
    (n : Fin 32) (r : Fin 256) (j : Fin 1792) (h : Spec.Ok (fun k => x0 (ix2 r k)) n) :
    partG (xg x0 n.val n.isLt) (wg x1 n.val n.isLt) (sg x2 n.val n.isLt) (ix2 r j)
      = Spec.part (fun k => x0 (ix2 r k)) (fun k j => x1 (ix2 k j)) s j n := by
  have hc := fun k => codesG_apply x0 n r k h
  have hx := fun z => scaleG_apply x0 n r z h
  unfold Spec.part
  rw [← hs, ← hx 0]
  simp only [← hc]
  unfold partG
  generalize scaleG (xg x0 n.val n.isLt) = sv
  generalize codesG (xg x0 n.val n.isLt) = cv
  pointwise [wg, sg, Spec.col]
  simp only [Nat.mul_comm 128]

/-- The accumulator after group `n`, at row `r` and column `j`: the parts up to `n`, summed. -/
theorem accG_apply (x0 : Vec Ideal S256x4096 .bf16) (x1 : Vec Ideal S4096x1792 .fp8e4m3) (x2 : Vec Ideal S32x1792 .f32)
    (s : Fin 32 → Fin 14 → EReal) (hs : ∀ (g : Fin 32) (j : Fin 1792), x2 (ix2 g j) = s g (Spec.blk j))
    (r : Fin 256) (j : Fin 1792) (h : ∀ g, Spec.Ok (fun k => x0 (ix2 r k)) g) (n : Nat) (hn : n < 32) :
    accG x0 x1 x2 n hn (ix2 r j)
      = ∑ g : Fin (n + 1), Spec.part (fun k => x0 (ix2 r k)) (fun k j => x1 (ix2 k j)) s j ⟨g.val, by omega⟩ := by
  induction n with
  | zero =>
    have e := partG_apply x0 x1 x2 s hs ⟨0, hn⟩ r j (h _)
    unfold accG
    pointwise
    rw [Fin.sum_univ_one]
    exact e
  | succ n ih =>
    have e := partG_apply x0 x1 x2 s hs ⟨n + 1, hn⟩ r j (h _)
    unfold accG
    rw [Fin.sum_univ_castSucc]
    pointwise
    exact congrArg₂ (· + ·) (ih _) e

/-- A block's stored `y`, at row `r` and column `j`. -/
theorem y_apply (x0 : Vec Ideal S256x4096 .bf16) (x1 : Vec Ideal S4096x1792 .fp8e4m3) (x2 : Vec Ideal S32x1792 .f32)
    (s : Fin 32 → Fin 14 → EReal) (hs : ∀ (g : Fin 32) (j : Fin 1792), x2 (ix2 g j) = s g (Spec.blk j))
    (r : Fin 256) (j : Fin 1792) (h : ∀ g, Spec.Ok (fun k => x0 (ix2 r k)) g) :
    k0_pay302 (accG x0 x1 x2 31 (by decide)) (ix2 r j)
      = Spec.out (fun k => x0 (ix2 r k)) (fun k j => x1 (ix2 k j)) s j :=
  accG_apply x0 x1 x2 s hs r j h 31 (by decide)

/-- A block's stored codes, at row `r` and column `k`. -/
theorem codes_apply (x0 : Vec Ideal S256x4096 .bf16) (r : Fin 256) (k : Fin 4096) (h : ∀ g, Spec.Ok (fun k => x0 (ix2 r k)) g) :
    codesBlk x0 (ix2 r k) = Spec.code (fun k => x0 (ix2 r k)) (Spec.grp k) (Spec.pos k) :=
  codesG_apply x0 (Spec.grp k) r (Spec.pos k) (h _)

/-- A block's stored scales, at row `r` and group `n`. -/
theorem scales_apply (x0 : Vec Ideal S256x4096 .bf16) (hc) (r : Fin 256) (n : Fin 32) (h : ∀ g, Spec.Ok (fun k => x0 (ix2 r k)) g) :
    concatenate S256x32 1 (List.ofFn fun n : Fin 32 => ⟨S256x1, scaleG (xg x0 n.val n.isLt)⟩) hc (ix2 r n)
      = Spec.scale (fun k => x0 (ix2 r k)) n := by
  refine (concatenate_ofFn_unit_apply (t := S256x32) (s₁ := S256x1) (1 : Fin 2) (fun n : Fin 32 => scaleG (xg x0 n.val n.isLt)) hc rfl rfl (ix2 r n) n rfl
    (ix2 (n0 := 256) (n1 := 1) r 0) fun b hb => ?_).trans (scaleG_apply x0 n r 0 (h _))
  match b with
  | ⟨0, _⟩ => rfl
  | ⟨1, _⟩ => exact absurd rfl hb

end Cert.KernelIdeal.Pure
-- ==== Proof.KernelArray.lean ====
/- The kernel's three result arrays after the run, as functions of the argument arrays. -/
module

public import proofs.«01_k».proof.Proof.KernelPure
public import Idealize.ShloMosaic.Lib.Claim

@[expose] public section

set_option maxRecDepth 16384

noncomputable section

namespace Cert.KernelIdeal.Array

open Cert.KernelIdeal Cert.KernelIdeal.Gen Cert.KernelIdeal.Block Cert.KernelIdeal.Pure Idealize.ShloMosaic Idealize.ShloMosaic.TcCoe Idealize.SL.Sem
open Idealize.ShloMosaic.Pipeline (Dat)

variable (m : (ℓ : Loc nD τ sig) → Buf (Elt Ideal) ℓ) (c : Dev nD)

/-- The activations. -/
abbrev X : FVec Ideal S3x2048x4096 .bf16 := m ((c : Thread nD τ).loc main_arg0)
/-- The weight codes. -/
abbrev W : FVec Ideal S4096x1792 .fp8e4m3 := m ((c : Thread nD τ).loc main_arg1)
/-- The weight scales. -/
abbrev S : FVec Ideal S32x14 .f32 := m ((c : Thread nD τ).loc main_arg2)

/-- Which block window 0 shows at each grid point. -/
theorem e0 : ∀ t : Fin cfg0.N, win0_0.index t = ![(grid0.coords t 0).val, 0] :=
  (by decide +kernel : ∀ t : Fin grid0.N, win0_0.index t = ![(grid0.coords t 0).val, 0])
/-- Which block window 1 shows at each grid point. -/
theorem e1 : ∀ t : Fin cfg0.N, win0_1.index t = ![0, 0] :=
  (by decide +kernel : ∀ t : Fin grid0.N, win0_1.index t = ![0, 0])
/-- Which block window 2 shows at each grid point. -/
theorem e2 : ∀ t : Fin cfg0.N, win0_2.index t = ![0, 0] :=
  (by decide +kernel : ∀ t : Fin grid0.N, win0_2.index t = ![0, 0])
/-- Which block window 3 shows at each grid point. -/
theorem e3 : ∀ t : Fin cfg0.N, win0_3.index t = ![(grid0.coords t 0).val, 0] :=
  (by decide +kernel : ∀ t : Fin grid0.N, win0_3.index t = ![(grid0.coords t 0).val, 0])
/-- Which block window 4 shows at each grid point. -/
theorem e4 : ∀ t : Fin cfg0.N, win0_4.index t = ![(grid0.coords t 0).val, 0] :=
  (by decide +kernel : ∀ t : Fin grid0.N, win0_4.index t = ![(grid0.coords t 0).val, 0])
/-- Which block window 5 shows at each grid point. -/
theorem e5 : ∀ t : Fin cfg0.N, win0_5.index t = ![(grid0.coords t 0).val, 0] :=
  (by decide +kernel : ∀ t : Fin grid0.N, win0_5.index t = ![(grid0.coords t 0).val, 0])

/-- Row `r` of point `t`'s block is row `256 * t + r` of the activations. -/
def row (t : Fin cfg0.N) (r : Fin 256) : Fin 6144 :=
  ⟨(grid0.coords t 0).val * 256 + r.val, by have h : (grid0.coords t 0).val < 24 := (grid0.coords t 0).isLt; omega⟩

/-- Point `t`'s block of the activations. -/
theorem x_blk (t : Fin cfg0.N) (r : Fin 256) (k : Fin 4096) :
    (iblk m c 0 t : FVec Ideal S256x4096 .bf16) (ix2 r k) = Spec.rowOf (X m c) (row t r) k := by
  unfold Spec.rowOf row X
  blk_ext! [iblk, V, e0]

/-- Every point's block of the weight codes is all of them. -/
theorem w_blk (t : Fin cfg0.N) (k : Fin 4096) (j : Fin 1792) :
    (iblk m c 1 t : FVec Ideal S4096x1792 .fp8e4m3) (ix2 k j) = W m c (ix2 k j) := by
  unfold W
  blk_ext! [iblk, V, e1]

/-- Every point's block of the repeated weight scales: column `j` has the scale of its block of 128. -/
theorem s_blk (t : Fin cfg0.N) (g : Fin 32) (j : Fin 1792) :
    (iblk m c 2 t : FVec Ideal S32x1792 .f32) (ix2 g j) = S m c (ix2 g (Spec.blk j)) := by
  unfold S Spec.blk
  blk_ext! [iblk, V, e2]

variable (hok : Spec.AllOk (X m c))
include hok

/-- A point's rows are in range. -/
theorem ok_blk (t : Fin cfg0.N) (r : Fin 256) (g : Fin 32) :
    Spec.Ok (fun k => (iblk m c 0 t : FVec Ideal S256x4096 .bf16) (ix2 r k)) g := by
  simp only [x_blk]
  exact hok _ g

/-- The array of `y` after the run. -/
theorem y_final : (dats m 0 c).arrAt 3 cfg0.N = Spec.yArr (X m c) (W m c) (S m c) := by
  refine (dats m 0 c).arrAt_eq_of_covers 3 _ (by decide +kernel) fun t hf y => ?_
  blk_simp
  rw [after0_3]
  simp only [outsAt0]
  rw [out3]
  obtain ⟨r, j, rfl⟩ : ∃ (r : Fin 256) (j : Fin 1792), y = (ix2 r j : S256x1792.Idx) := ⟨y 0, y 1, eq_ix2 y⟩
  have he : ((View.whole main_v3_0).slice (win0_3.rect t)).emb (ix2 r j : S256x1792.Idx) = (ix2 (row t r) j : S6144x1792.Idx) := by
    unfold row; blk_ext [e3]
  refine Eq.trans ?_ (congrArg (Spec.yArr (X m c) (W m c) (S m c)) he.symm)
  refine (y_apply _ _ _ (fun g b => S m c (ix2 g b)) (s_blk m c t) r j (ok_blk m c hok t r)).trans ?_
  simp only [x_blk, w_blk]
  rfl

/-- The array of codes after the run. -/
theorem codes_final : (dats m 0 c).arrAt 4 cfg0.N = Spec.codesArr (X m c) := by
  refine (dats m 0 c).arrAt_eq_of_covers 4 _ (by decide +kernel) fun t hf y => ?_
  blk_simp
  rw [after0_4]
  simp only [outsAt0]
  rw [out4]
  obtain ⟨r, j, rfl⟩ : ∃ (r : Fin 256) (j : Fin 4096), y = (ix2 r j : S256x4096.Idx) := ⟨y 0, y 1, eq_ix2 y⟩
  have he : ((View.whole main_v3_1).slice (win0_4.rect t)).emb (ix2 r j : S256x4096.Idx) = (ix2 (row t r) j : S6144x4096.Idx) := by
    unfold row; blk_ext [e4]
  refine Eq.trans ?_ (congrArg (Spec.codesArr (X m c)) he.symm)
  refine (codes_apply _ r j (ok_blk m c hok t r)).trans ?_
  simp only [x_blk]
  rfl

/-- The array of scales after the run. -/
theorem scales_final : (dats m 0 c).arrAt 5 cfg0.N = Spec.scalesArr (X m c) := by
  refine (dats m 0 c).arrAt_eq_of_covers 5 _ (by decide +kernel) fun t hf y => ?_
  blk_simp
  rw [after0_5]
  simp only [outsAt0]
  rw [out5]
  obtain ⟨r, j, rfl⟩ : ∃ (r : Fin 256) (j : Fin 32), y = (ix2 r j : S256x32.Idx) := ⟨y 0, y 1, eq_ix2 y⟩
  have he : ((View.whole main_v3_2).slice (win0_5.rect t)).emb (ix2 r j : S256x32.Idx) = (ix2 (row t r) j : S6144x32.Idx) := by
    unfold row; blk_ext [e5]
  refine Eq.trans ?_ (congrArg (Spec.scalesArr (X m c)) he.symm)
  refine (scales_apply _ _ r j (ok_blk m c hok t r)).trans ?_
  simp only [x_blk]
  rfl

end Cert.KernelIdeal.Array
-- ==== Proof.RefPure.lean ====
/- The reference's payloads at the extended reals, in the terms both programs share (`Cert.Spec`). -/
module

public import proofs.«01_k».proof.Proof.Gen.ReferenceIdeal.Frame
public import proofs.«01_k».proof.Proof.Spec
public import Idealize.ShloMosaic.Lib.Pointwise

@[expose] public section

set_option maxRecDepth 16384

noncomputable section

namespace Cert.ReferenceIdeal.Pure

open Cert.ReferenceIdeal Cert.ReferenceIdeal.Gen Cert.Exponent Idealize.ShloMosaic Idealize.ShloMosaic.TcCoe Idealize.SL.Sem

/-- The activations in groups. -/
theorem xg_apply (x : FVec Ideal S6144x4096 .bf16) (r : Fin 6144) (g : Fin 32) (k : Fin 128) :
    k0_pay3 (F := Ideal) x (ix3 r g k) = x (ix2 r (Spec.col g k)) := by
  pointwise [k0_pay3, Spec.col]

/-- The greatest of a row's group. -/
theorem max_apply (v : FVec Ideal S6144x32x128 .f32) (r : Fin 6144) (g : Fin 32) :
    multiReduction .maximumf [2] S6144x32 v 0xFF800000#32 reduces_S6144x32x128_S6144x32 (.inl rfl) rfl (ix2 r g)
      = Finset.univ.fold max (Ideal.ofBits .f32 0xFF800000#32) fun k : Fin 128 => v (ix3 r g k) := by
  pointwise

/-- The exponents from the groups' greatest magnitudes `a`. -/
def eV (a : FVec Ideal S6144x32 .f32) : FVec Ideal S6144x32 .f32 :=
  select (cmpf .oeq a (broadcast S6144x32 (Scalar.ofBits .f32 0x00000000#32)))
    (broadcast S6144x32 (Scalar.ofBits .f32 0x00000000#32))
    (addf (floor (divf (log (mulf a (broadcast S6144x32 (Scalar.ofBits .f32 0x3B124925#32))))
      (log (broadcast S6144x32 (Scalar.ofBits .f32 0x40000000#32))))) (broadcast S6144x32 (Scalar.ofBits .f32 0x3F800000#32)))

/-- Each is the exponent of its group. -/
theorem eV_apply (a : FVec Ideal S6144x32 .f32) (j : S6144x32.Idx) : eV a j = eOf (a j) := by
  pointwise [eV, eOf, c448]

/-- The exponent of a row's group. -/
theorem e_apply (x : FVec Ideal S6144x4096 .bf16) (r : Fin 6144) (g : Fin 32) :
    k0_pay4 (F := Ideal) x (ix2 r g) = eOf (Spec.amax (fun k => x (ix2 r k)) g) := by
  have h : k0_pay4 (F := Ideal) x = eV (multiReduction .maximumf [2] S6144x32 (absf (k0_pay3 (F := Ideal) x)) 0xFF800000#32
    reduces_S6144x32x128_S6144x32 (.inl rfl) rfl) := by
    unfold k0_pay4 eV; rfl
  rw [h, eV_apply, max_apply]
  unfold Spec.amax
  simp only [← xg_apply]
  rfl

/-- A power of two, element by element. -/
theorem exp2_apply (v : FVec Ideal S6144x32 .f32) (j : S6144x32.Idx) : exp2 v j = Ideal.exp2 (v j) := by
  rfl

/-- The scale of a row's group. -/
theorem scale_apply (x : FVec Ideal S6144x4096 .bf16) (r : Fin 6144) (g : Fin 32) :
    k0_pay5 (F := Ideal) x (ix2 r g) = Spec.scale (fun k => x (ix2 r k)) g := by
  have h : k0_pay5 (F := Ideal) x = exp2 (k0_pay4 (F := Ideal) x) := by unfold k0_pay5; rfl
  unfold Spec.scale scaleOf
  exact (congrFun h _).trans ((exp2_apply _ _).trans (congrArg Ideal.exp2 (e_apply x r g)))

/-- The codes of the grouped activations `v` from the groups' exponents `e`. -/
def codesV (v : FVec Ideal S6144x32x128 .f32) (e : FVec Ideal S6144x32 .f32) : FVec Ideal S6144x32x128 .f32 :=
  minimumf (broadcast S6144x32x128 (Scalar.ofBits .f32 0x43E00000#32)) (maximumf (broadcast S6144x32x128 (Scalar.ofBits .f32 0xC3E00000#32))
    (mulf v (broadcastTo S6144x32x128 (shapeCast S6144x32x1 (exp2 (subf (broadcast S6144x32 (Scalar.ofBits .f32 0x00000000#32)) e))
      shapeCasts_S6144x32_S6144x32x1 : FVec Ideal S6144x32x1 .f32) broadcasts_S6144x32x1_S6144x32x128)))

/-- One of them. -/
theorem codesV_apply (v : FVec Ideal S6144x32x128 .f32) (e : FVec Ideal S6144x32 .f32) (r : Fin 6144) (g : Fin 32) (k : Fin 128) :
    codesV v e (ix3 r g k) = min (Ideal.ofBits .f32 0x43E00000#32) (max (Ideal.ofBits .f32 0xC3E00000#32)
      (v (ix3 r g k) * Ideal.exp2 (Ideal.ofBits .f32 0x00000000#32 - e (ix2 r g)))) := by
  pointwise [codesV]
  rfl

/-- The code of element `k` of a row's group. -/
theorem code_apply (x : FVec Ideal S6144x4096 .bf16) (r : Fin 6144) (g : Fin 32) (k : Fin 128) :
    k0_pay6 (F := Ideal) x (ix3 r g k) = Spec.code (fun k => x (ix2 r k)) g k := by
  have e := e_apply x r g
  unfold Spec.code invOf
  rw [← e]
  beta_reduce
  rw [← xg_apply x r g k]
  have h : k0_pay6 (F := Ideal) x = codesV (k0_pay3 (F := Ideal) x) (k0_pay4 (F := Ideal) x) := by
    unfold k0_pay6 codesV
    generalize k0_pay4 (F := Ideal) x = ev
    generalize k0_pay3 (F := Ideal) x = xv
    rfl
  rw [h, codesV_apply]

/-- The codes as stored: the groups side by side. -/
theorem merge_apply (v : FVec Ideal S6144x32x128 .fp8e4m3) (r : Fin 6144) (k : Fin 4096) :
    k0_pay2 (F := Ideal) v (ix2 r k) = v (ix3 r (Spec.grp k) (Spec.pos k)) := by
  pointwise [k0_pay2, Spec.grp, Spec.pos]

/-- The codes as stored, at row `r` and column `k`. -/
theorem codes_apply (x : FVec Ideal S6144x4096 .bf16) (r : Fin 6144) (k : Fin 4096) :
    k0_pay2 (F := Ideal) (k0_pay6 (F := Ideal) x) (ix2 r k) = Spec.code (fun k => x (ix2 r k)) (Spec.grp k) (Spec.pos k) := by
  rw [merge_apply, code_apply]

/-- The grouped product of the codes `cv` and the weight codes. -/
def dotV (cv : FVec Ideal S6144x32x128 .fp8e4m3) (w : FVec Ideal S4096x1792 .fp8e4m3) : FVec Ideal S32x6144x1792 .f32 :=
  matmul dot_S32x6144x128_S32x128x1792_S32x6144x1792_2_1_1_2_0_0 none
    (transpose S32x6144x128 [1, 0, 2] cv transposes_S6144x32x128_p1_0_2_S32x6144x128)
    (shapeCast S32x128x1792 w shapeCasts_S4096x1792_S32x128x1792 : FVec Ideal S32x128x1792 .fp8e4m3) (constant S32x6144x1792 .f32 0x00000000#32)

/-- One element of it. -/
theorem dotV_apply (cv : FVec Ideal S6144x32x128 .fp8e4m3) (w : FVec Ideal S4096x1792 .fp8e4m3) (g : Fin 32) (r : Fin 6144) (j : Fin 1792) :
    dotV cv w (ix3 g r j) = ∑ k : Fin 128, cv (ix3 r g k) * w (ix2 (Spec.col g k) j) := by
  pointwise [dotV, Spec.col]

/-- The row scales spread over the product's shape. -/
def xsV (sv : FVec Ideal S6144x32 .f32) : FVec Ideal S32x6144x1792 .f32 :=
  broadcastTo S32x6144x1792 (shapeCast S32x6144x1 (transpose S32x6144 [1, 0] sv transposes_S6144x32_p1_0_S32x6144)
    shapeCasts_S32x6144_S32x6144x1 : FVec Ideal S32x6144x1 .f32) broadcasts_S32x6144x1_S32x6144x1792

/-- One element of them. -/
theorem xsV_apply (sv : FVec Ideal S6144x32 .f32) (g : Fin 32) (r : Fin 6144) (j : Fin 1792) : xsV sv (ix3 g r j) = sv (ix2 r g) := by
  pointwise [xsV]

/-- The weight scales spread over the product's shape. -/
theorem ws_apply (s : FVec Ideal S32x14 .f32) (g : Fin 32) (r : Fin 6144) (j : Fin 1792) :
    (broadcastTo S32x6144x1792 (k0_pay7 (F := Ideal) s) broadcasts_S32x1x1792_S32x6144x1792 : FVec Ideal S32x6144x1792 .f32) (ix3 g r j)
      = s (ix2 g (Spec.blk j)) := by
  pointwise [k0_pay7, Spec.blk]

/-- The sum over the groups. -/
theorem sum_apply (v : FVec Ideal S32x6144x1792 .f32) (r : Fin 6144) (j : Fin 1792) :
    multiReduction .add [0] S6144x1792 v 0x00000000#32 reduces_S32x6144x1792_S6144x1792 (.inl rfl) rfl (ix2 r j)
      = ∑ g : Fin 32, v (ix3 g r j) := by
  pointwise

/-- The output as stored. -/
theorem y_apply (x : FVec Ideal S6144x4096 .bf16) (w : FVec Ideal S4096x1792 .fp8e4m3) (s : FVec Ideal S32x14 .f32)
    (r : Fin 6144) (j : Fin 1792) :
    k0_pay1 (F := Ideal) (k0_pay7 (F := Ideal) s) (k0_pay8 (F := Ideal) x w) (ix2 r j)
      = Spec.out (fun k => x (ix2 r k)) (fun k j => w (ix2 k j)) (fun g b => s (ix2 g b)) j := by
  have h : k0_pay1 (F := Ideal) (k0_pay7 (F := Ideal) s) (k0_pay8 (F := Ideal) x w)
      = multiReduction .add [0] S6144x1792 (mulf (mulf (dotV (k0_pay6 (F := Ideal) x) w) (xsV (k0_pay5 (F := Ideal) x)))
          (broadcastTo S32x6144x1792 (k0_pay7 (F := Ideal) s) broadcasts_S32x1x1792_S32x6144x1792))
          0x00000000#32 reduces_S32x6144x1792_S6144x1792 (.inl rfl) rfl := by
    unfold k0_pay1 k0_pay8 dotV xsV
    generalize k0_pay6 (F := Ideal) x = cv
    generalize k0_pay5 (F := Ideal) x = sv
    generalize k0_pay7 (F := Ideal) s = wv
    rfl
  rw [h, sum_apply]
  unfold Spec.out Spec.part
  refine Finset.sum_congr rfl fun g _ => ?_
  have hd := dotV_apply (k0_pay6 (F := Ideal) x) w g r j
  have hx := xsV_apply (k0_pay5 (F := Ideal) x) g r j
  have hw := ws_apply s g r j
  rw [scale_apply] at hx
  simp only [code_apply] at hd
  beta_reduce
  rw [← hd, ← hx, ← hw]
  generalize dotV (k0_pay6 (F := Ideal) x) w = d
  generalize xsV (k0_pay5 (F := Ideal) x) = xs
  generalize (broadcastTo S32x6144x1792 (k0_pay7 (F := Ideal) s) broadcasts_S32x1x1792_S32x6144x1792 : FVec Ideal S32x6144x1792 .f32) = ws
  rfl

end Cert.ReferenceIdeal.Pure
-- ==== Proof.RefArray.lean ====
/- The reference's three result arrays after the run, as functions of the argument arrays. -/
module

public import proofs.«01_k».proof.Proof.RefPure
public import Idealize.ShloMosaic.Lib.Pipeline.ValueKit
public import Idealize.ShloMosaic.Lib.Claim

@[expose] public section

set_option maxRecDepth 16384

noncomputable section

namespace Cert.ReferenceIdeal.Array

open Cert.ReferenceIdeal Cert.ReferenceIdeal.Gen Cert.ReferenceIdeal.Pure Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The activations. -/
abbrev X : FVec Ideal S3x2048x4096 .bf16 := m ((c : Thread nD τ).loc main_arg0)
/-- The weight codes. -/
abbrev W : FVec Ideal S4096x1792 .fp8e4m3 := m ((c : Thread nD τ).loc main_arg1)
/-- The weight scales. -/
abbrev S : FVec Ideal S32x14 .f32 := m ((c : Thread nD τ).loc main_arg2)

/-- Which block window 0 shows at each grid point. -/
theorem e0 : ∀ t : Fin cfg0.N, win0_0.index t = ![0, 0] := (by decide +kernel : ∀ t : Fin grid0.N, win0_0.index t = ![0, 0])
/-- Which block window 1 shows at each grid point. -/
theorem e1 : ∀ t : Fin cfg0.N, win0_1.index t = ![0, 0] := (by decide +kernel : ∀ t : Fin grid0.N, win0_1.index t = ![0, 0])
/-- Which block window 2 shows at each grid point. -/
theorem e2 : ∀ t : Fin cfg0.N, win0_2.index t = ![0, 0] := (by decide +kernel : ∀ t : Fin grid0.N, win0_2.index t = ![0, 0])
/-- Which block window 3 shows at each grid point. -/
theorem e3 : ∀ t : Fin cfg0.N, win0_3.index t = ![0, 0] := (by decide +kernel : ∀ t : Fin grid0.N, win0_3.index t = ![0, 0])
/-- Which block window 4 shows at each grid point. -/
theorem e4 : ∀ t : Fin cfg0.N, win0_4.index t = ![0, 0] := (by decide +kernel : ∀ t : Fin grid0.N, win0_4.index t = ![0, 0])
/-- Which block window 5 shows at each grid point. -/
theorem e5 : ∀ t : Fin cfg0.N, win0_5.index t = ![0, 0] := (by decide +kernel : ∀ t : Fin grid0.N, win0_5.index t = ![0, 0])

/-- The one point's block of the activations is all of them. -/
theorem x_blk (t : Fin cfg0.N) (r : Fin 6144) (k : Fin 4096) :
    (iblk m c 0 t : FVec Ideal S6144x4096 .bf16) (ix2 r k) = Spec.rowOf (X m c) r k := by
  unfold Spec.rowOf X
  blk_ext! [iblk, V, e0]

/-- Its block of the weight codes is all of them. -/
theorem w_blk (t : Fin cfg0.N) (k : Fin 4096) (j : Fin 1792) :
    (iblk m c 1 t : FVec Ideal S4096x1792 .fp8e4m3) (ix2 k j) = W m c (ix2 k j) := by
  unfold W
  blk_ext! [iblk, V, e1]

/-- Its block of the weight scales is all of them. -/
theorem s_blk (t : Fin cfg0.N) (g : Fin 32) (b : Fin 14) :
    (iblk m c 2 t : FVec Ideal S32x14 .f32) (ix2 g b) = S m c (ix2 g b) := by
  unfold S
  blk_ext! [iblk, V, e2]

/-- The array of `y` after the run. -/
theorem y_final : (dats m 0 c).arrAt 3 cfg0.N = Spec.yArr (X m c) (W m c) (S m c) := by
  refine (dats m 0 c).arrAt_eq_of_covers 3 _ (by decide +kernel) fun t hf y => ?_
  blk_simp
  rw [after0_3]
  frame_out
  obtain ⟨r, j, rfl⟩ : ∃ (r : Fin 6144) (j : Fin 1792), y = (ix2 r j : S6144x1792.Idx) := ⟨y 0, y 1, eq_ix2 y⟩
  have he : ((View.whole main_v1_0).slice (win0_3.rect t)).emb (ix2 r j : S6144x1792.Idx) = (ix2 r j : S6144x1792.Idx) := by
    blk_ext [e3]
  refine Eq.trans ?_ (congrArg (Spec.yArr (X m c) (W m c) (S m c)) he.symm)
  refine (y_apply _ _ _ r j).trans ?_
  simp only [x_blk, w_blk, s_blk]
  rfl

/-- The array of codes after the run. -/
theorem codes_final : (dats m 0 c).arrAt 4 cfg0.N = Spec.codesArr (X m c) := by
  refine (dats m 0 c).arrAt_eq_of_covers 4 _ (by decide +kernel) fun t hf y => ?_
  blk_simp
  rw [after0_4]
  frame_out
  obtain ⟨r, j, rfl⟩ : ∃ (r : Fin 6144) (j : Fin 4096), y = (ix2 r j : S6144x4096.Idx) := ⟨y 0, y 1, eq_ix2 y⟩
  have he : ((View.whole main_v1_1).slice (win0_4.rect t)).emb (ix2 r j : S6144x4096.Idx) = (ix2 r j : S6144x4096.Idx) := by
    blk_ext [e4]
  refine Eq.trans ?_ (congrArg (Spec.codesArr (X m c)) he.symm)
  refine (codes_apply _ r j).trans ?_
  simp only [x_blk]
  rfl

/-- The array of scales after the run. -/
theorem scales_final : (dats m 0 c).arrAt 5 cfg0.N = Spec.scalesArr (X m c) := by
  refine (dats m 0 c).arrAt_eq_of_covers 5 _ (by decide +kernel) fun t hf y => ?_
  blk_simp
  rw [after0_5]
  frame_out
  obtain ⟨r, j, rfl⟩ : ∃ (r : Fin 6144) (j : Fin 32), y = (ix2 r j : S6144x32.Idx) := ⟨y 0, y 1, eq_ix2 y⟩
  have he : ((View.whole main_v1_2).slice (win0_5.rect t)).emb (ix2 r j : S6144x32.Idx) = (ix2 r j : S6144x32.Idx) := by
    blk_ext [e5]
  refine Eq.trans ?_ (congrArg (Spec.scalesArr (X m c)) he.symm)
  refine (scale_apply _ r j).trans ?_
  simp only [x_blk]
  rfl

/-- The run: the three results are those arrays, the arguments unchanged. -/
theorem run : θ_run defs (onTc (τ := τ) (main (F := Ideal))) ⟨m, fun _ => 0, ρ⟩ fun r => ∀ c : Dev nD,
      r.2.mem ((c : Thread nD τ).loc main_v1_0) = Spec.yArr (X m c) (W m c) (S m c)
      ∧ r.2.mem ((c : Thread nD τ).loc main_v1_1) = Spec.codesArr (X m c)
      ∧ r.2.mem ((c : Thread nD τ).loc main_v1_2) = Spec.scalesArr (X m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (y_final m c), ((h c).1 4).trans (codes_final m c), ((h c).1 5).trans (scales_final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Array
-- ==== Proof.PreUse.lean ====
/- The precondition, read as a fact about every group of every row. -/
module

public import proofs.«01_k».proof.Defs
public import proofs.«01_k».proof.Proof.Gen.Pre_scales_in_range
public import proofs.«01_k».proof.Proof.Spec

@[expose] public section

set_option maxRecDepth 16384

noncomputable section

namespace Cert.PreUse

open Cert.Exponent Idealize.ShloMosaic Cert.Pre_scales_in_range

/-- The condition's bit, set, says its number is in range. -/
theorem inRange_of_bit (t : EReal)
    (h : IntOp.ori (BitVec.ofBool (decide (t = 0)))
      (IntOp.andi (BitVec.ofBool (decide (Ideal.ofBits .f32 0x00800000#32 ≤ t)))
        (BitVec.ofBool (decide (t < Ideal.ofBits .f32 0x7E800000#32)))) = 1#1) : InRange t := by
  unfold InRange
  rw [bits_zero]
  by_cases h0 : t = 0
  · exact Or.inl h0
  · by_cases h1 : Ideal.ofBits .f32 0x00800000#32 ≤ t
    · by_cases h2 : t < Ideal.ofBits .f32 0x7E800000#32
      · exact Or.inr ⟨h1, h2⟩
      · simp [h0, h1, h2, IntOp.ori, IntOp.andi] at h
    · simp [h0, h1, IntOp.ori, IntOp.andi] at h

/-- The groups of the activations, read at an element. -/
theorem groups_apply (x : FVec Ideal S3x2048x4096 .bf16) (b : Fin 3) (r : Fin 2048) (g : Fin 32) (k : Fin 128) :
    shapeCast S3x2048x32x128 (extf (F := Ideal) .f32 x (by decide)) (by decide) (ix4 b r g k) = x (ix3 b r (Spec.col g k)) := by
  unfold Spec.col
  pointwise

/-- The greatest magnitudes, read at a group. -/
theorem max_apply (v : FVec Ideal S3x2048x32x128 .f32) (hr : S3x2048x32x128.ReducesTo [3] S3x2048x32) (h0 : 0 < S_.numel)
    (b : Fin 3) (r : Fin 2048) (g : Fin 32) :
    Host.reduce FloatOps.maximumf (Host.absf v) (constant (F := Ideal) S_ .f32 0xFF800000#32) hr h0 (ix3 b r g)
      = Finset.univ.fold max (Ideal.ofBits .f32 0xFF800000#32) fun k : Fin 128 => max (v (ix4 b r g k)) (-(v (ix4 b r g k))) := by
  pointwise
  rfl

/-- The condition, from the greatest magnitudes `a`. -/
def cond (hb : S_.BroadcastsInDim S3x2048x32 (![] : Fin 0 → Fin S3x2048x32.rank)) (a : FVec Ideal S3x2048x32 .f32) : IVec S3x2048x32 1 :=
  let t := mulf a (broadcastInDim S3x2048x32 ![] hb (constant S_ .f32 0x3B124925#32))
  ori (cmpf .oeq t (broadcastInDim S3x2048x32 ![] hb (constant S_ .f32 0x00000000#32)))
    (andi (cmpf .oge t (broadcastInDim S3x2048x32 ![] hb (constant S_ .f32 0x00800000#32)))
      (cmpf .olt t (broadcastInDim S3x2048x32 ![] hb (constant S_ .f32 0x7E800000#32))))

/-- Where it is true, that group is in range. -/
theorem cond_apply (hb : S_.BroadcastsInDim S3x2048x32 (![] : Fin 0 → Fin S3x2048x32.rank)) (a : FVec Ideal S3x2048x32 .f32) (j : S3x2048x32.Idx)
    (h : cond hb a j = 1#1) : InRange (a j * c448) := by
  refine inRange_of_bit _ (Eq.trans ?_ h)
  pointwise [cond, c448]

/-- Where the precondition's function is true, that group's `t` is in range. -/
theorem fn_apply (x : FVec Ideal S3x2048x4096 .bf16) (w : FVec Ideal S4096x1792 .fp8e4m3) (s : FVec Ideal S32x14 .f32)
    (b : Fin 3) (r : Fin 2048) (g : Fin 32)
    (h : @Cert.Pre_scales_in_range.fn Cert.Pre_scales_in_range.Gen.facts Ideal _ x w s (ix3 b r g) = 1#1) :
    InRange (Spec.amax (fun k => x (ix3 b r k)) g * c448) := by
  have h' := cond_apply _ _ _ (show cond _ _ (ix3 b r g) = 1#1 from h)
  beta_reduce at h'
  rw [max_apply] at h'
  unfold Spec.amax
  simp only [groups_apply] at h'
  exact h'

/-- Under the precondition every group of every row of the activations is in range. -/
theorem allOk (m : (ℓ : Loc Cert.KernelIdeal.nD Cert.KernelIdeal.τ Cert.KernelIdeal.sig) → Buf (Elt Ideal) ℓ)
    (h : @Cert.Pre_KernelIdeal_scales_in_range Cert.Pre_scales_in_range.Gen.facts m) (c : Dev Cert.KernelIdeal.nD) :
    Spec.AllOk (m ((c.tc : Thread Cert.KernelIdeal.nD Cert.KernelIdeal.τ).loc Cert.KernelIdeal.main_arg0)) := by
  intro r g
  exact fn_apply _ _ _ _ _ g (congrFun (h c) _)

end Cert.PreUse
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.Pre_scales_in_range
public import proofs.«01_k».proof.Proof.KernelArray
public import proofs.«01_k».proof.Proof.RefArray
public import proofs.«01_k».proof.Proof.PreUse
public import Idealize.ShloMosaic.Adequacy
public import Idealize.ShloMosaic.Init

@[expose] public section

noncomputable section

namespace Cert.Proof

open Idealize.ShloMosaic Idealize.SL.Sem Cert.Kernel

/-- Kernel and reference end with the same three arrays. -/
theorem algebraic : @Cert.algebraic_KernelIdeal_ReferenceIdeal_pre_scales_in_range Cert.KernelIdeal.Gen.facts Cert.ReferenceIdeal.Gen.facts Cert.Pre_scales_in_range.Gen.facts := by
  intro m g m' g' hp ha
  refine ⟨fun c => Spec.yArr (Cert.KernelIdeal.Array.X m c) (Cert.KernelIdeal.Array.W m c) (Cert.KernelIdeal.Array.S m c),
    fun c => Spec.codesArr (Cert.KernelIdeal.Array.X m c), fun c => Spec.scalesArr (Cert.KernelIdeal.Array.X m c),
    (θ_run _ _ _).mono (fun r hr c => ?_) (Cert.KernelIdeal.Value.run_blocks (F := Ideal) m g),
    (θ_run _ _ _).mono (fun r hr c => ?_) (Cert.ReferenceIdeal.Array.run m' g')⟩
  · obtain ⟨hy, hc, hs, hk⟩ := hr c
    have h := PreUse.allOk m hp c
    exact ⟨hy.trans (Cert.KernelIdeal.Array.y_final m c h), hc.trans (Cert.KernelIdeal.Array.codes_final m c h),
      hs.trans (Cert.KernelIdeal.Array.scales_final m c h), hk⟩
  obtain ⟨h0, h1, h2⟩ := ha c
  obtain ⟨hy, hc, hs, hk⟩ := hr c
  have e0 : Cert.ReferenceIdeal.Array.X m' c = Cert.KernelIdeal.Array.X m c := h0
  have e1 : Cert.ReferenceIdeal.Array.W m' c = Cert.KernelIdeal.Array.W m c := h1
  have e2 : Cert.ReferenceIdeal.Array.S m' c = Cert.KernelIdeal.Array.S m c := h2
  rw [e0, e1, e2] at hy
  rw [e0] at hc hs
  exact ⟨hy, hc, hs, hk⟩

/-- Every claim of the certificate. -/
theorem claim : Cert.Claim := ⟨Cert.Kernel.Gen.facts, Cert.KernelIdeal.Gen.facts, Cert.ReferenceIdeal.Gen.facts, Cert.Pre_scales_in_range.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
